-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 512]⟩ ⟨2, ![512, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 256]⟩ ⟨2, ![512, 512]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x512 : Shape := ⟨2, ![256, 512]⟩
abbrev S512x256 : Shape := ⟨2, ![512, 256]⟩
abbrev S256x256 : Shape := ⟨2, ![256, 256]⟩
abbrev S_ : Shape := ⟨0, ![]⟩

abbrev nBuf : Space → Nat
  | .hbm => 2
  | .vmem => 1
  | .smem => 0
  | _ => 0

abbrev bufTy : (tb : Table) → Fin (tcTables nBuf tb) → BufTy
  | .hbm, ⟨0, _⟩ => ⟨S256x512, .f32⟩
  | .hbm, ⟨1, _⟩ => ⟨S512x256, .f32⟩
  | .local _ .vmem, ⟨0, _⟩ => ⟨S256x256, .f32⟩
  | _, _ => ⟨S256x512, .f32⟩

abbrev bufScoped : (cs : CoreSpace) → Fin (nBuf (.core cs)) → Bool
  | .vmem, ⟨0, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32 : BitVec 32 := 0#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c256_i32 : BitVec 32 := 256#32
  let v10 : BitVec 32 := Scalar.muli v9 c256_i32
  ![0, v10.toNat]
def k0_off2 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_4 : BitVec 32 := 256#32
  let v13 : BitVec 32 := Scalar.muli v5 c256_i32_4
  let c0_i32_5 : BitVec 32 := 0#32
  ![v13.toNat, 0]
def k0_off3 (d0 : Dev nD) : Fin 2 → Nat :=
  let c0_i32_6 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32_3 : BitVec 32 := 256#32
  let v12 : BitVec 32 := Scalar.muli v5 c256_i32_3
  ![0, v12.toNat]
def k0_dev1 (d0 : Dev nD) : Nat :=
  let c0_i32_9 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8 : BitVec 32 := 8#32
  let v17 : BitVec 32 := Scalar.muli v2 c8_i32_8
  let v18 : BitVec 32 := Scalar.addi c0_i32_9 v17
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_10 : BitVec 32 := 4#32
  let v19 : BitVec 32 := Scalar.muli v9 c4_i32_10
  let v20 : BitVec 32 := Scalar.addi v18 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v21 : BitVec 32 := Scalar.muli v8 c1_i32_11
  let v22 : BitVec 32 := Scalar.addi v20 v21
  v22.toNat
def k0_dev2 (d0 : Dev nD) : Nat :=
  let c0_i32_16 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_15 : BitVec 32 := 8#32
  let v25 : BitVec 32 := Scalar.muli v2 c8_i32_15
  let v26 : BitVec 32 := Scalar.addi c0_i32_16 v25
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_17 : BitVec 32 := 4#32
  let v27 : BitVec 32 := Scalar.muli v9 c4_i32_17
  let v28 : BitVec 32 := Scalar.addi v26 v27
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_18 : BitVec 32 := 1#32
  let v29 : BitVec 32 := Scalar.muli v8 c1_i32_18
  let v30 : BitVec 32 := Scalar.addi v28 v29
  v30.toNat
-- ==== ReferenceIdeal.lean ====
abbrev S512x512 : Shape := ⟨2, ![512, 512]⟩

abbrev nBuf : Space → Nat
  | .hbm => 1
  | .vmem => 0
  | .smem => 0
  | _ => 0

abbrev bufTy : (tb : Table) → Fin (tcTables nBuf tb) → BufTy
  | .hbm, ⟨0, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
The devices of the mesh and how they pair up.

The mesh is 2 × 2 × 4 over the axes x, y, z, and device `c` has the logical id `8 x + 4 y + z`. The kernel exchanges
blocks between the two devices that differ in their y coordinate alone. This module names a device's y coordinate
(`half`), the other device of its pair (`peer`), and the device of the pair that stands at a given y coordinate
(`owner`); it also shows that the device ids the kernel computes are the peer's.
-/
module

public import proofs.«01_k».proof.Proof.Gen.KernelIdeal

@[expose] public section

namespace Cert.AllToAll

open Idealize.ShloMosaic Cert.KernelIdeal Cert.KernelIdeal.Gen

/-- The y coordinate of device `c`. -/
def half (c : Dev nD) : ℕ := (c.val / 4) % 2

/-- There are two y coordinates. -/
theorem half_lt (c : Dev nD) : half c < 2 := Nat.mod_lt _ (by decide)

set_option backward.proofsInPublic true in
/-- The device with the same x and z coordinates as `c` and the other y coordinate. -/
def peer (c : Dev nD) : Dev nD :=
  ⟨(8 * (c.val / 8) + (c.val % 4) + 4) - 4 * ((c.val / 4) % 2), by have := c.isLt; revert this; generalize c.val = v; decide +revert⟩

/-- Pairing is an involution. -/
theorem peer_peer (c : Dev nD) : peer (peer c) = c := by revert c; decide

/-- The peer's y coordinate is the other one. -/
theorem half_peer (c : Dev nD) : half (peer c) = 1 - half c := by revert c; decide

/-- The pairing as a permutation of the devices. -/
def pairing : Dev nD ≃ Dev nD := ⟨peer, peer, peer_peer, peer_peer⟩

/-- Pairing is symmetric. -/
theorem peer_eq_iff {d c : Dev nD} : peer d = c ↔ d = peer c :=
  ⟨fun h => by rw [← h, peer_peer], fun h => by rw [h, peer_peer]⟩

/-- The device the kernel signals is the peer. -/
theorem dev1_eq (c : Dev nD) : (⟨k0_dev1 c, k0_dev1_lt c⟩ : Dev nD) = peer c := Fin.ext (k0_dev1_eq c)

/-- The device the kernel's remote copy addresses is the peer. -/
theorem dev2_eq (c : Dev nD) : (⟨k0_dev2 c, k0_dev2_lt c⟩ : Dev nD) = peer c := Fin.ext (k0_dev2_eq c)

/-- The device of `c`'s pair whose y coordinate is `k`. -/
def owner (c : Dev nD) (k : ℕ) : Dev nD := if k = half c then c else peer c

/-- At its own y coordinate stands the device itself. -/
theorem owner_half (c : Dev nD) : owner c (half c) = c := if_pos rfl

/-- At the y coordinate of `c` stands `c`, seen from its peer. -/
theorem owner_peer_half (c : Dev nD) : owner (peer c) (half c) = c := by
  unfold owner
  rw [if_neg (by rw [half_peer]; have := half_lt c; omega), peer_peer]

end Cert.AllToAll
-- ==== Proof.Halves.lean ====
/-
The blocks the kernel moves.

On every device the kernel works with the input rows `x` (256 × 512), the result (512 × 256) and one staging buffer
(256 × 256). It cuts `x` into two halves by columns and the result into two halves by rows:

* `xAway c` : the columns of `x` that device `c` sends to its peer;
* `xKeep c` : the columns of `x` that device `c` keeps;
* `oRows c` : the rows of the result that come from device `c` (on `c` itself and on its peer).

This module shows that each pair of halves is a partition, fixes what the staging buffer and the result hold at the
end (`staged`, `final`), and shows that each of the three copies leaves exactly that in the half it writes.
-/
module

public import proofs.«01_k».proof.Proof.Mesh
public import Idealize.ShloMosaic.Lib.Pipeline.Value
public import Idealize.ShloMosaic.Lib.ValueIdxCore

@[expose] public section

noncomputable section

namespace Cert.AllToAll

open Idealize.ShloMosaic Idealize.ShloMosaic.TcCoe Idealize.ShloMosaic.ValueIdx Cert.KernelIdeal Cert.KernelIdeal.Gen

/-! ## The memrefs -/

/-- The input rows. -/
abbrev xM : Memref sig .tc .hbm S256x512 .f32 := Memref.whole main_arg0
/-- The result. -/
abbrev oM : Memref sig .tc .hbm S512x256 .f32 := Memref.whole main_v1
/-- The staging buffer. -/
abbrev bM : Memref sig .tc .vmem S256x256 .f32 := Memref.whole cc0_scratch0

/-- The columns of `x` device `c` sends away. -/
abbrev xAway (c : Dev nD) : Memref sig .tc .hbm S256x256 .f32 :=
  xM.slice (Rect.unit (s := S256x512) (k0_off1 c) S256x256.size (k0_off1_inb c)) (fun _ => rfl)
/-- The columns of `x` device `c` keeps. -/
abbrev xKeep (c : Dev nD) : Memref sig .tc .hbm S256x256 .f32 :=
  xM.slice (Rect.unit (s := S256x512) (k0_off3 c) S256x256.size (k0_off3_inb c)) (fun _ => rfl)
/-- The rows of the result that come from device `c`. -/
abbrev oRows (c : Dev nD) : Memref sig .tc .hbm S256x256 .f32 :=
  oM.slice (Rect.unit (s := S512x256) (k0_off2 c) S256x256.size (k0_off2_inb c)) (fun _ => rfl)

/-! ## The halves are partitions -/

/-- The columns sent away are those of the other y coordinate. -/
theorem mem_xAway (c : Dev nD) (i : S256x512.Idx) :
    i ∈ (xAway c).view.set ↔ 256 - 256 * half c ≤ (i 1).val ∧ (i 1).val < 512 - 256 * half c := by
  have h0 : (i 0).val < 256 := (i 0).isLt
  have h1 := half_lt c
  rw [show (xAway c).view.set = (Rect.unit (s := S256x512) (k0_off1 c) S256x256.size (k0_off1_inb c)).set from View.set_slice_whole _ _]
  rw [Rect.mem_set_unit, Fin.forall_fin_two, k0_off1_eq]
  show (0 ≤ (i 0).val ∧ (i 0).val < 0 + 256) ∧ (256 - 256 * half c ≤ (i 1).val ∧ (i 1).val < 256 - 256 * half c + 256) ↔ _
  omega

/-- The columns kept are those of the device's own y coordinate. -/
theorem mem_xKeep (c : Dev nD) (i : S256x512.Idx) :
    i ∈ (xKeep c).view.set ↔ 256 * half c ≤ (i 1).val ∧ (i 1).val < 256 * half c + 256 := by
  have h0 : (i 0).val < 256 := (i 0).isLt
  rw [show (xKeep c).view.set = (Rect.unit (s := S256x512) (k0_off3 c) S256x256.size (k0_off3_inb c)).set from View.set_slice_whole _ _]
  rw [Rect.mem_set_unit, Fin.forall_fin_two, k0_off3_eq]
  show (0 ≤ (i 0).val ∧ (i 0).val < 0 + 256) ∧ (256 * half c ≤ (i 1).val ∧ (i 1).val < 256 * half c + 256) ↔ _
  omega

/-- The rows that come from a device are those of its y coordinate. -/
theorem mem_oRows (c : Dev nD) (i : S512x256.Idx) :
    i ∈ (oRows c).view.set ↔ 256 * half c ≤ (i 0).val ∧ (i 0).val < 256 * half c + 256 := by
  have h1 : (i 1).val < 256 := (i 1).isLt
  rw [show (oRows c).view.set = (Rect.unit (s := S512x256) (k0_off2 c) S256x256.size (k0_off2_inb c)).set from View.set_slice_whole _ _]
  rw [Rect.mem_set_unit, Fin.forall_fin_two, k0_off2_eq]
  show (256 * half c ≤ (i 0).val ∧ (i 0).val < 256 * half c + 256) ∧ (0 ≤ (i 1).val ∧ (i 1).val < 0 + 256) ↔ _
  omega

/-- No column is both sent and kept. -/
theorem disjoint_columns (c : Dev nD) : Disjoint (xAway c).view.set (xKeep c).view.set := by
  refine Finset.disjoint_left.mpr fun i hi hj => ?_
  have := (mem_xAway c i).mp hi; have := (mem_xKeep c i).mp hj; have := half_lt c
  omega

/-- Every column is sent or kept. -/
theorem union_columns (c : Dev nD) : (xAway c).view.set ∪ (xKeep c).view.set = Finset.univ := by
  refine Finset.eq_univ_iff_forall.mpr fun i => Finset.mem_union.mpr ?_
  have h : ((i : S256x512.Idx) 1).val < 512 := ((i : S256x512.Idx) 1).isLt
  have := half_lt c
  rw [mem_xAway, mem_xKeep]
  omega

/-- No row of the result comes from both devices of a pair. -/
theorem disjoint_rows (c : Dev nD) : Disjoint (oRows c).view.set (oRows (peer c)).view.set := by
  refine Finset.disjoint_left.mpr fun i hi hj => ?_
  have := (mem_oRows c i).mp hi; have := (mem_oRows (peer c) i).mp hj; have := half_lt c; have := half_peer c
  omega

/-- Every row of the result comes from one of the two devices of a pair. -/
theorem union_rows (c : Dev nD) : (oRows c).view.set ∪ (oRows (peer c)).view.set = Finset.univ := by
  refine Finset.eq_univ_iff_forall.mpr fun i => Finset.mem_union.mpr ?_
  have h : ((i : S512x256.Idx) 0).val < 512 := ((i : S512x256.Idx) 0).isLt
  have := half_lt c
  rw [mem_oRows, mem_oRows, half_peer]
  omega

/-! ## The contents -/

variable {F : FTy → Type} (m : (ℓ : Loc nD τ sig) → Buf (Elt F) ℓ)

/-- The rows of the input that device `c` holds at launch. -/
def xOf (c : Dev nD) : S256x512.Idx → Elt F .f32 := m ((c : Thread nD τ).loc main_arg0)

/-- What device `c` puts in its staging buffer: the columns it sends away. -/
def staged (c : Dev nD) : S256x256.Idx → Elt F .f32 := (xAway c).view.read (Elt F) (xOf m c)

/-- Where the element at index `i` of the result stands in the rows its owner holds: row `i 0` of the half, column
    `i 1` of the columns of `c`. -/
def sourceIdx (c : Dev nD) (i : S512x256.Idx) : S256x512.Idx :=
  ix2 ⟨(i 0).val % 256, Nat.mod_lt _ (by decide)⟩
    ⟨256 * half c + (i 1).val, by have := half_lt c; have : (i 1).val < 256 := (i 1).isLt; omega⟩

/-- What device `c`'s result holds at the end: at row `i 0` the element of the rows of the device that owns the half
    of `i 0`, in the columns of `c`. -/
def final (c : Dev nD) : S512x256.Idx → Elt F .f32 := fun i => xOf m (owner c ((i 0).val / 256)) (sourceIdx c i)

/-! ## What the copies leave -/

/-- The copy into the staging buffer leaves the columns that device `c` sends away. -/
theorem lands_staged (c : Dev nD) (fd : S256x256.Idx → Elt F .f32) :
    bM.view.write (Elt F) fd ((xAway c).view.read (Elt F) (xOf m c)) Finset.univ = staged m c :=
  View.write_whole_univ _ _ _

/-- Where the element at index `x` of the rows from device `c` stands in the result. -/
theorem emb_oRows (c : Dev nD) (x : S256x256.Idx) :
    ((oRows c).view.emb x 0).val = 256 * half c + (x 0).val ∧ ((oRows c).view.emb x 1).val = (x 1).val := by
  constructor
  · show (k0_off2 c) 0 + 1 * (x 0).val = _
    rw [k0_off2_eq, Nat.one_mul]; rfl
  · show (k0_off2 c) 1 + 1 * (x 1).val = _
    rw [k0_off2_eq, Nat.one_mul]; exact Nat.zero_add _

/-- The local copy into the result leaves the final contents in the rows from device `c` itself. -/
theorem lands_kept (c : Dev nD) (fd : S512x256.Idx → Elt F .f32) (i : S512x256.Idx) (hi : i ∈ (oRows c).view.set) :
    (oRows c).view.write (Elt F) fd ((xKeep c).view.read (Elt F) (xOf m c)) Finset.univ i = final m c i := by
  obtain ⟨x, rfl⟩ := View.exists_emb_of_mem_set (oRows c).view hi
  obtain ⟨e0, e1⟩ := emb_oRows c x
  have hx0 : (x 0).val < 256 := (x 0).isLt
  rw [View.write_emb_of_mem _ _ (Finset.mem_univ x)]
  show xOf m c ((xKeep c).view.emb x) = _
  unfold final
  rw [show (((oRows c).view.emb x) 0).val / 256 = half c by rw [e0]; omega, owner_half]
  refine congrArg (xOf m c) (funext fun a => Fin.ext ?_)
  match a with
  | ⟨0, _⟩ =>
    show (k0_off3 c) 0 + 1 * (x 0).val = ((oRows c).view.emb x 0).val % 256
    rw [e0, k0_off3_eq, Nat.one_mul]
    show 0 + (x 0).val = _
    omega
  | ⟨1, _⟩ =>
    show (k0_off3 c) 1 + 1 * (x 1).val = 256 * half c + ((oRows c).view.emb x 1).val
    rw [e1, k0_off3_eq, Nat.one_mul]; rfl

/-- The remote copy out of device `c` leaves the final contents of its peer in the rows from `c`. -/
theorem lands_sent (c : Dev nD) (fd : S512x256.Idx → Elt F .f32) (i : S512x256.Idx) (hi : i ∈ (oRows c).view.set) :
    (oRows c).view.write (Elt F) fd (bM.view.read (Elt F) (staged m c)) Finset.univ i = final m (peer c) i := by
  obtain ⟨x, rfl⟩ := View.exists_emb_of_mem_set (oRows c).view hi
  obtain ⟨e0, e1⟩ := emb_oRows c x
  have hx0 : (x 0).val < 256 := (x 0).isLt
  have hc := half_lt c
  rw [View.write_emb_of_mem _ _ (Finset.mem_univ x)]
  show xOf m c ((xAway c).view.emb x) = _
  unfold final
  rw [show (((oRows c).view.emb x) 0).val / 256 = half c by rw [e0]; omega, owner_peer_half]
  refine congrArg (xOf m c) (funext fun a => Fin.ext ?_)
  match a with
  | ⟨0, _⟩ =>
    show (k0_off1 c) 0 + 1 * (x 0).val = ((oRows c).view.emb x 0).val % 256
    rw [e0, k0_off1_eq, Nat.one_mul]
    show 0 + (x 0).val = _
    omega
  | ⟨1, _⟩ =>
    show (k0_off1 c) 1 + 1 * (x 1).val = 256 * half (peer c) + ((oRows c).view.emb x 1).val
    rw [e1, k0_off1_eq, Nat.one_mul, half_peer]
    show 256 - 256 * half c + (x 1).val = _
    omega

/-! ## What the copies credit -/

/-- What one copy of a 256 × 256 block adds to the semaphores it completes on. -/
abbrev credit : ℕ := (bM : Memref sig .tc .vmem S256x256 .f32).view.dmaCredit

/-- A copy credits something. -/
theorem credit_pos : 0 < credit := View.dmaCredit_pos _ (by decide)

/-- A copy into the result credits what a copy into the staging buffer credits. -/
theorem credit_oRows (c : Dev nD) : (oRows c).view.dmaCredit = credit := by rfl

end Cert.AllToAll

end
-- ==== Proof.Protocol.lean ====
/-
The protocol of one exchange.

A device takes part in five events, each on a semaphore of its own that is used once:

* ready : the peer's signal on the barrier semaphore. It hands over the peer's result rows that this device is to
  write.
* stage : the local copy of the columns to send into the staging buffer. It hands back those columns and the buffer.
* keep  : the local copy of the kept columns into the result. It hands back those columns and the rows written.
* sent  : the departure of the remote copy. It hands back the staging buffer.
* recv  : the arrival of the peer's remote copy. It hands over the rows of the result that come from the peer.

The schedule states what each event pays and hands over, with the contents. A device starts out owing its peer a
signal and the units of one copy; it waits for nothing but arrivals of a lower level than what it still owes.
-/
module

public import proofs.«01_k».proof.Proof.Halves
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The launch's own bookkeeping beside the protocol's. -/
abbrev UU : Type := UR sig nD τ × UR sig nD τ

local notation "𝕄" => MT nD τ sig Unit (Elt F) ℕ UU ℕ

/-- Where the launch's bookkeeping lies. -/
abbrev EP : Emb (UR sig nD τ) (MT nD τ sig Unit (Elt F) ℕ UU ℕ) := embL
/-- Where the protocol's bookkeeping lies. -/
abbrev ER : Emb (UR sig nD τ) (MT nD τ sig Unit (Elt F) ℕ UU ℕ) := embR

variable (m : (ℓ : Loc nD τ sig) → Buf (Elt F) ℓ)

/-! ## The semaphores -/

/-- The barrier semaphore shared by all kernels with this collective id. -/
abbrev readyS : Sem sig := (SemArray.scalar (sig.barrier 0 rfl) : Sems sig S_).sem

/-- The semaphore of the event ready. -/
abbrev readySem : SemLoc sig := .reg readyS
/-- The semaphore of the event stage. -/
abbrev stageSem : SemLoc sig := .dma cc0_scratch1.sem
/-- The semaphore of the event keep. -/
abbrev keepSem : SemLoc sig := .dma cc0_scratch2.sem
/-- The semaphore of the event sent. -/
abbrev sentSem : SemLoc sig := .dma cc0_scratch3.sem
/-- The semaphore of the event recv. -/
abbrev recvSem : SemLoc sig := .dma cc0_scratch4.sem

/-- The five semaphores of a device. -/
abbrev event : Fin 5 → SemLoc sig := fun | 0 => readySem | 1 => stageSem | 2 => keepSem | 3 => sentSem | 4 => recvSem

/-- The five semaphores are distinct. -/
theorem event_injective : Function.Injective event := by decide

/-- The cell of the event ready on device `c`. -/
abbrev readyCell (c : Dev nD) : GSem nD τ sig := ((c : Thread nD τ), readySem)
/-- The cell of the event stage on device `c`. -/
abbrev stageCell (c : Dev nD) : GSem nD τ sig := ((c : Thread nD τ), stageSem)
/-- The cell of the event keep on device `c`. -/
abbrev keepCell (c : Dev nD) : GSem nD τ sig := ((c : Thread nD τ), keepSem)
/-- The cell of the event sent on device `c`. -/
abbrev sentCell (c : Dev nD) : GSem nD τ sig := ((c : Thread nD τ), sentSem)
/-- The cell of the event recv on device `c`. -/
abbrev recvCell (c : Dev nD) : GSem nD τ sig := ((c : Thread nD τ), recvSem)

/-! ## Owning the blocks -/

/-- Device `c` owns the columns it sends away, as launched. -/
def awayPts (c : Dev nD) : sProp 𝕄 := (xAway c).view.loc (c : Thread nD τ) ↦[(xAway c).view.set]{fullShare} xOf m c
/-- Device `c` owns the columns it keeps, as launched. -/
def keepPts (c : Dev nD) : sProp 𝕄 := (xKeep c).view.loc (c : Thread nD τ) ↦[(xKeep c).view.set]{fullShare} xOf m c
/-- The staging buffer of device `c`, holding `f`. -/
def bufPts (c : Dev nD) (f : Buf (Elt F) ((bM : Memref sig .tc .vmem S256x256 .f32).view.loc (c : Thread nD τ))) : sProp 𝕄 :=
  (bM : Memref sig .tc .vmem S256x256 .f32).view.loc (c : Thread nD τ) ↦[(bM : Memref sig .tc .vmem S256x256 .f32).view.set]{fullShare} f
/-- The rows of device `d`'s result that come from device `c`, holding what `f` holds there. -/
def rowsPts (d c : Dev nD) (f : Buf (Elt F) ((oRows c).view.loc (d : Thread nD τ))) : sProp 𝕄 :=
  (oRows c).view.loc (d : Thread nD τ) ↦[(oRows c).view.set]{fullShare} f

instance awayPts_storable (c : Dev nD) : BI.Storable (upEmb : UEmb _ 𝕄) (awayPts m c) := by unfold awayPts; infer_instance
instance keepPts_storable (c : Dev nD) : BI.Storable (upEmb : UEmb _ 𝕄) (keepPts m c) := by unfold keepPts; infer_instance
instance bufPts_storable (c : Dev nD) (f) : BI.Storable (upEmb : UEmb _ 𝕄) (bufPts (F := F) c f) := by unfold bufPts; infer_instance
instance rowsPts_storable (d c : Dev nD) (f) : BI.Storable (upEmb : UEmb _ 𝕄) (rowsPts (F := F) d c f) := by unfold rowsPts; infer_instance

/-- The staging buffer is owned whole. -/
theorem bufPts_eq (c : Dev nD) (f : Buf (Elt F) ((c : Thread nD τ).loc cc0_scratch0)) :
    (bufPts c f : sProp 𝕄) = (((c : Thread nD τ).loc cc0_scratch0) ↦{fullShare} f) := by
  unfold bufPts; rw [show (bM : Memref sig .tc .vmem S256x256 .f32).view.set = Finset.univ from View.set_whole _]

/-- Owning the input rows is owning the columns sent away and the columns kept. -/
theorem x_split (c : Dev nD) :
    ((((c : Thread nD τ).loc main_arg0) ↦{fullShare} m ((c : Thread nD τ).loc main_arg0)) : sProp 𝕄) ⊣⊢ iprop(awayPts m c ∗ keepPts m c) := by
  unfold awayPts keepPts
  rw [← union_columns c]
  exact pointsTo_union (disjoint_columns c)

/-- Owning a device's result is owning its rows from the device itself and its rows from the peer. -/
theorem out_split (c : Dev nD) (f : Buf (Elt F) ((c : Thread nD τ).loc main_v1)) :
    ((((c : Thread nD τ).loc main_v1) ↦{fullShare} f) : sProp 𝕄) ⊣⊢ iprop(rowsPts c c f ∗ rowsPts c (peer c) f) := by
  unfold rowsPts
  rw [← union_rows c]
  exact pointsTo_union (disjoint_rows c)

/-! ## The schedule -/

/-- The event ready brings the peer's rows that come from this device. -/
def readyPay (c : Dev nD) : sProp 𝕄 := iprop(∃ f, rowsPts (peer c) c f)
/-- The event stage brings the filled staging buffer and the columns it was filled from. -/
def stagePay (c : Dev nD) : sProp 𝕄 := iprop(bufPts c (staged m c) ∗ awayPts m c)
/-- The event keep brings the finished own rows and the columns they were copied from. -/
def keepPay (c : Dev nD) : sProp 𝕄 := iprop(rowsPts c c (final m c) ∗ keepPts m c)
/-- The event sent brings the staging buffer back. -/
def sentPay (c : Dev nD) : sProp 𝕄 := bufPts c (staged m c)
/-- The event recv brings the finished rows that come from the peer. -/
def recvPay (c : Dev nD) : sProp 𝕄 := rowsPts c (peer c) (final m c)

/-- What the event on semaphore `sm` of device `c` hands over. -/
def handed (c : Dev nD) (sm : SemLoc sig) : sProp 𝕄 :=
  if sm = readySem then readyPay c
  else if sm = stageSem then stagePay m c
  else if sm = keepSem then keepPay m c
  else if sm = sentSem then sentPay m c
  else if sm = recvSem then recvPay m c
  else iprop(emp)

instance handed_storable (c : Dev nD) (sm : SemLoc sig) : BI.Storable (upEmb : UEmb _ 𝕄) (handed m c sm) := by
  unfold handed readyPay stagePay keepPay sentPay recvPay
  (repeat' split) <;> infer_instance

/-- Every device uses each of its five semaphores for one round with one duty. -/
def plan : Rounds.Schedule (GSem nD τ sig) Unit 𝕄 where
  duties g r := if r = 0 ∧ g.1.2 = .tc ∧ ∃ k, g.2 = event k then {()} else ∅
  unitless _ := False
  amount g _ _ := if g.2 = readySem then 1 else credit
  payload g _ _ := handed m g.1.1 g.2
  amount_pos g _ _ _ := by
    by_cases h : g.2 = readySem
    · rw [if_pos h]; exact Nat.one_pos
    · rw [if_neg h]; exact credit_pos

instance plan_storable (g : GSem nD τ sig) (r : ℕ) (d : Unit) : BI.Storable (upEmb : UEmb _ 𝕄) ((plan m).payload g r d) :=
  handed_storable m g.1.1 g.2

/-- Each event has one duty. -/
theorem duties_event (c : Dev nD) (k : Fin 5) : (plan m).duties ((c : Thread nD τ), event k) 0 = {()} := if_pos ⟨rfl, rfl, k, rfl⟩

/-- The duty of an event is one of its first round. -/
theorem mem_duties (c : Dev nD) (k : Fin 5) : () ∈ (plan m).duties ((c : Thread nD τ), event k) 0 := by
  rw [duties_event]; exact Finset.mem_singleton_self _

/-- No event has a second round. -/
theorem duties_later (g : GSem nD τ sig) : ∀ r, 1 ≤ r → (plan m).duties g r = ∅ :=
  fun r hr => if_neg fun h => by omega

/-- The signal counts one. -/
theorem amount_ready (c : Dev nD) (u : Unit) : (plan m).amount (readyCell c) 0 u = 1 := by
  dsimp only [plan]; exact if_pos rfl

/-- A copy counts its credit. -/
theorem amount_dma (c : Dev nD) (q : DmaSem sig) (u : Unit) : (plan m).amount ((c : Thread nD τ), .dma q) 0 u = credit := by
  dsimp only [plan]; exact if_neg fun h => by cases h

/-- A round expects what its one duty counts. -/
theorem expect_event (c : Dev nD) (k : Fin 5) :
    (plan m).expect ((c : Thread nD τ), event k) 0 = (plan m).amount ((c : Thread nD τ), event k) 0 () := by
  unfold Schedule.expect Schedule.amountOf; rw [duties_event, Finset.sum_singleton]

/-- What a wait for the one round of an event brings. -/
theorem rest_event (c : Dev nD) (k : Fin 5) :
    bigSep ((plan m).duties ((c : Thread nD τ), event k) 0 \ ∅) (fun u => (plan m).payload ((c : Thread nD τ), event k) 0 u) = handed m c (event k) := by
  rw [Finset.sdiff_empty, duties_event, bigSep_singleton]; rfl

/-- What the event ready hands over. -/
theorem handed_ready (c : Dev nD) : handed m c (event 0) = readyPay c := if_pos rfl
/-- What the event stage hands over. -/
theorem handed_stage (c : Dev nD) : handed m c (event 1) = stagePay m c := by
  unfold handed; rw [if_neg (by decide), if_pos rfl]
/-- What the event keep hands over. -/
theorem handed_keep (c : Dev nD) : handed m c (event 2) = keepPay m c := by
  unfold handed; rw [if_neg (by decide), if_neg (by decide), if_pos rfl]
/-- What the event sent hands over. -/
theorem handed_sent (c : Dev nD) : handed m c (event 3) = sentPay m c := by
  unfold handed; rw [if_neg (by decide), if_neg (by decide), if_neg (by decide), if_pos rfl]
/-- What the event recv hands over. -/
theorem handed_recv (c : Dev nD) : handed m c (event 4) = recvPay m c := by
  unfold handed; rw [if_neg (by decide), if_neg (by decide), if_neg (by decide), if_neg (by decide), if_pos rfl]

/-! ## What a device owes, and the levels -/

/-- What device `c` owes once it has signalled: the units its copy adds at its peer. -/
def owesCopy (c : Dev nD) : CellTallies nD τ sig Unit := tallyAt (recvCell (peer c)) () credit
/-- What device `c` owes at launch: that, and one signal to its peer. -/
def owesAll (c : Dev nD) : CellTallies nD τ sig Unit := owesCopy c + tallyAt (readyCell (peer c)) () 1

/-- Credits are counted on the main cores alone. -/
def L (g : GSem nD τ sig) : Finset Unit := if g.1.2 = .tc then {()} else ∅
/-- Arrivals of remote copies stand above everything else. -/
def lv (g : GSem nD τ sig) (_ : Unit) : ℕ := if g.2 = recvSem then 1 else 0

/-- No other core has credits. -/
theorem L_of_ne (g : GSem nD τ sig) (h : g.1.2 ≠ .tc) : L g = ∅ := if_neg h
/-- Every semaphore of a main core has them. -/
theorem L_tc (c : Dev nD) (sm : SemLoc sig) : L ((c : Thread nD τ), sm) = {()} := if_pos rfl

/-- The copy is owed to the peer's arrival and to nothing else. -/
theorem owesCopy_pos {c : Dev nD} {g : GSem nD τ sig} {u : Unit} (h : 0 < owesCopy c g u) : g = recvCell (peer c) := by
  unfold owesCopy at h
  rw [tallyAt_apply] at h
  by_contra hn
  rw [if_neg fun h' => hn h'.1] at h
  exact Nat.lt_irrefl 0 h

/-- While it owes its copy, a device may wait for anything but an arrival. -/
theorem mayWait_owing (c : Dev nD) (sm : SemLoc sig) (hsm : sm ≠ recvSem) :
    (levAts L lv : sProp 𝕄) ⊢ MayWait (c : Thread nD τ) sm () (owesCopy c) :=
  MayOwe.of_cut (L := L) (lev := lv) 0
    (fun p hp => by rw [Finset.mem_singleton.mp hp, L_tc]; exact Finset.mem_singleton_self _)
    (fun g u hg => by rw [owesCopy_pos hg, L_tc]; exact Finset.mem_singleton_self _)
    (fun p hp => by rw [Finset.mem_singleton.mp hp]; exact le_of_eq (if_neg hsm))
    (fun g u hg => by rw [owesCopy_pos hg]; exact lt_of_lt_of_eq Nat.one_pos (if_pos rfl).symm)

/-! ## What a device starts from and ends with -/

/-- The records a device relies on: its own five cells and its peer's two. -/
def invs (K : Dev nD × Fin 5 → ℕ) (c : Dev nD) : sProp 𝕄 :=
  iprop(cellInv ER (plan m) (K (c, 0)) (readyCell c) ∗ cellInv ER (plan m) (K (c, 1)) (stageCell c)
    ∗ cellInv ER (plan m) (K (c, 2)) (keepCell c) ∗ cellInv ER (plan m) (K (c, 3)) (sentCell c)
    ∗ cellInv ER (plan m) (K (c, 4)) (recvCell c)
    ∗ cellInv ER (plan m) (K (peer c, 0)) (readyCell (peer c)) ∗ cellInv ER (plan m) (K (peer c, 4)) (recvCell (peer c)))

instance invs_persistent (K : Dev nD × Fin 5 → ℕ) (c : Dev nD) : BI.Persistent (invs m K c) := by unfold invs; infer_instance

/-- The rounds the device knows to be open: those of the events it pays for. -/
def opened (c : Dev nD) : sProp 𝕄 :=
  iprop(reached ER (readyCell (peer c)) 0 ∗ reached ER (stageCell c) 0 ∗ reached ER (keepCell c) 0 ∗ reached ER (sentCell c) 0
    ∗ reached ER (recvCell (peer c)) 0)

instance opened_persistent (c : Dev nD) : BI.Persistent (opened (F := F) c) := by unfold opened; infer_instance

/-- The device's places at its own five cells. -/
def places (c : Dev nD) : sProp 𝕄 :=
  iprop(atPos ER (readyCell c) 0 ∅ 0 ∗ atPos ER (stageCell c) 0 ∅ 0 ∗ atPos ER (keepCell c) 0 ∅ 0
    ∗ atPos ER (sentCell c) 0 ∅ 0 ∗ atPos ER (recvCell c) 0 ∅ 0)

/-- The duties of a device's own five cells. -/
def ownDuties (c : Dev nD) : sProp 𝕄 :=
  iprop(dutyTok ER (readyCell c) 0 () ∗ dutyTok ER (stageCell c) 0 () ∗ dutyTok ER (keepCell c) 0 ()
    ∗ dutyTok ER (sentCell c) 0 () ∗ dutyTok ER (recvCell c) 0 ())

/-- The duties a device pays: the signal and the arrival at its peer, and the three departures of its own. -/
def paidDuties (c : Dev nD) : sProp 𝕄 :=
  iprop(dutyTok ER (readyCell (peer c)) 0 () ∗ dutyTok ER (stageCell c) 0 () ∗ dutyTok ER (keepCell c) 0 ()
    ∗ dutyTok ER (sentCell c) 0 () ∗ dutyTok ER (recvCell (peer c)) 0 ())

/-- The protocol's share of device `c` at launch. -/
def ghost (K : Dev nD × Fin 5 → ℕ) (c : Dev nD) : sProp 𝕄 := iprop(invs m K c ∗ opened c ∗ places c ∗ paidDuties c)

/-- The memory device `c` starts from: the input rows and the result as launched. -/
def arrays (c : Dev nD) : sProp 𝕄 :=
  iprop((((c : Thread nD τ).loc main_arg0) ↦{fullShare} m ((c : Thread nD τ).loc main_arg0))
    ∗ (((c : Thread nD τ).loc main_v1) ↦{fullShare} m ((c : Thread nD τ).loc main_v1)))

/-- What device `c` starts from beside its staging buffer. -/
def start (c : Dev nD) : sProp 𝕄 :=
  iprop((∃ K, ghost m K c) ∗ cred (tallyAt (readyCell c) () 1) ∗ cred (tallyAt (recvCell c) () credit) ∗ levAts L lv ∗ arrays m c)

/-- What device `c` starts from. -/
def before (c : Dev nD) : sProp 𝕄 := iprop(start m c ∗ ∃ f, bufPts c f)

/-- The memory device `c` ends with: the input rows as launched, the result at its final contents. -/
def results (c : Dev nD) : sProp 𝕄 :=
  iprop((((c : Thread nD τ).loc main_arg0) ↦{fullShare} m ((c : Thread nD τ).loc main_arg0))
    ∗ (((c : Thread nD τ).loc main_v1) ↦{fullShare} (final m c : Buf (Elt F) ((c : Thread nD τ).loc main_v1))))

/-- A device ends with its results, its staging buffer and its five semaphores at zero. -/
def after (c : Dev nD) : sProp 𝕄 :=
  iprop(results m c ∗ bufPts c (staged m c) ∗ semVal (readyCell c) 0
    ∗ semVal (stageCell c) 0 ∗ semVal (keepCell c) 0 ∗ semVal (sentCell c) 0 ∗ semVal (recvCell c) 0)

end Cert.AllToAll

end
-- ==== Proof.Body.lean ====
/-
The kernel's body meets the protocol.

Each of the three copies is one lemma: what it takes, and which event it pays. `sound_body` walks through the body in
its order: the two local copies start, the signal hands the peer the rows it will write, the waits bring the blocks
back, the remote copy starts, and at the end the halves join to the whole input rows and the whole result.
-/
module

public import proofs.«01_k».proof.Proof.Protocol
public import proofs.«01_k».proof.Proof.Gen.KernelIdeal.Skeleton

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop has a variant: the program has none. -/
abbrev 𝒱₀ : Variants := Variants.none

/-! ## The copies -/

/-- The copy of the columns to send into the staging buffer pays the event `stage`. -/
theorem copy_stage (c : Dev nD) (κ : ℕ) (f : Buf (Elt F) ((bM : Memref sig .tc .vmem S256x256 .f32).view.loc (c : Thread nD τ)))
    {α : Type} {Q : α → sProp 𝕄} {k : PUnit → Prog (TpuEff nD τ sig (Elt F) Λ₀ .tc) α}
    {hsrc : (xAway c).view.WordExact} {hdst : (bM : Memref sig .tc .vmem S256x256 .f32).view.WordExact}
    {hsem : DmaTarget.Typed (nD := nD) (τ := τ) (p := Proc.tc) .hbm stageSem (.here (bM : Memref sig .tc .vmem S256x256 .f32))} :
    iprop(cellInv ER (plan m) κ (stageCell c) ∗ awayPts m c ∗ bufPts c f ∗ dutyTok ER (stageCell c) 0 () ∗ reached ER (stageCell c) 0)
      ⊢ iprop((cred (tallyAt (stageCell c) () credit) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xAway c) (.here bM) stageSem hsrc hdst hsem) k) Q) := by
  unfold awayPts bufPts
  exact Rounds.wp_copy_pointsTo 𝒱₀ ER (plan m) (c : Thread nD τ) none (mem_duties m c 1) () credit rfl (amount_dma m c _ ())
    (by
      show _ ⊢ handed m c (event 1)
      rw [handed_stage, lands_staged]
      unfold stagePay bufPts awayPts
      exact BI.Entails.refl _)

/-- The copy of the kept columns into the result pays the event `keep`. -/
theorem copy_keep (c : Dev nD) (κ : ℕ) (f : Buf (Elt F) ((oRows c).view.loc (c : Thread nD τ)))
    {α : Type} {Q : α → sProp 𝕄} {k : PUnit → Prog (TpuEff nD τ sig (Elt F) Λ₀ .tc) α}
    {hsrc : (xKeep c).view.WordExact} {hdst : (oRows c).view.WordExact}
    {hsem : DmaTarget.Typed (nD := nD) (τ := τ) (p := Proc.tc) .hbm keepSem (.here (oRows c))} :
    iprop(cellInv ER (plan m) κ (keepCell c) ∗ keepPts m c ∗ rowsPts c c f ∗ dutyTok ER (keepCell c) 0 () ∗ reached ER (keepCell c) 0)
      ⊢ iprop((cred (tallyAt (keepCell c) () credit) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xKeep c) (.here (oRows c)) keepSem hsrc hdst hsem) k) Q) := by
  unfold keepPts rowsPts
  exact Rounds.wp_copy_pointsTo 𝒱₀ ER (plan m) (c : Thread nD τ) none (mem_duties m c 2) () credit (credit_oRows c) (amount_dma m c _ ())
    (by
      show _ ⊢ handed m c (event 2)
      rw [handed_keep]
      unfold keepPay rowsPts keepPts
      rw [pointsTo_congr (lands_kept m c f)])

/-- The remote copy pays the event `sent` of its device and the event `recv` of the peer. -/
theorem copy_sent (c n : Dev nD) (hn : n = peer c) (κ κ' : ℕ) (f : Buf (Elt F) ((oRows c).view.loc (peer c : Thread nD τ))) (W : Waits sig Unit)
    {α : Type} {Q : α → sProp 𝕄} {k : PUnit → Prog (TpuEff nD τ sig (Elt F) Λ₀ .tc) α}
    {hsc : (oRows c : Memref sig (Dev.tc n : Thread nD τ).2.kind .hbm S256x256 .f32).view.ref.isScScratch = false}
    {hsrc : (bM : Memref sig .tc .vmem S256x256 .f32).view.WordExact} {hdst : (oRows c).view.WordExact}
    {hsem : DmaTarget.Typed (nD := nD) (τ := τ) (p := Proc.tc) .vmem recvSem (.remote (Dev.tc n : Thread nD τ) (oRows c) sentSem hsc)} :
    iprop(cellInv ER (plan m) κ (sentCell c) ∗ cellInv ER (plan m) κ' (recvCell (peer c))
        ∗ bufPts c (staged m c) ∗ rowsPts (peer c) c f ∗ owes (c : Thread nD τ) (owesCopy c) W
        ∗ dutyTok ER (sentCell c) 0 () ∗ reached ER (sentCell c) 0 ∗ dutyTok ER (recvCell (peer c)) 0 () ∗ reached ER (recvCell (peer c)) 0)
      ⊢ iprop(((cred (tallyAt (sentCell c) () credit) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bM (.remote (Dev.tc n : Thread nD τ) (oRows c) sentSem hsc) recvSem hsrc hdst hsem) k) Q) := by
  subst hn
  unfold bufPts rowsPts
  exact Rounds.wp_send_pointsTo 𝒱₀ ER (plan m) (c : Thread nD τ) none (κ₁ := κ) (κ₂ := κ') (r₁ := 0) (r₂ := 0) (d₁ := ()) (d₂ := ()) (fd := f)
    (mem_duties m c 3) (mem_duties m (peer c) 4) () () credit (credit_oRows c) (amount_dma m c _ ()) (amount_dma m (peer c) _ ())
    0 (by rw [zero_add]; rfl) (W := W)
    (by
      show _ ⊢ handed m c (event 3)
      rw [handed_sent]
      unfold sentPay bufPts
      exact BI.Entails.refl _)
    (by
      show _ ⊢ handed m (peer c) (event 4)
      rw [handed_recv]
      unfold recvPay rowsPts
      rw [peer_peer, pointsTo_congr (lands_sent m c f)])

/-! ## The body -/

/-- What is owed at launch is the copy and the signal. -/
theorem owesAll_eq (c : Dev nD) : owesAll c = owesCopy c + tallyAt (readyCell (peer c)) () 1 := rfl

set_option maxHeartbeats 1600000 in
/-- The body, from what a device starts with, ends with what the device is to end with, and owes nothing. -/
theorem sound_body (K : Dev nD × Fin 5 → ℕ) (c : Dev nD) (W : Waits sig Unit) (Kt : PUnit → sProp 𝕄) :
    iprop((ghost m K c ∗ cred (tallyAt (readyCell c) () 1) ∗ cred (tallyAt (recvCell c) () credit) ∗ levAts L lv ∗ arrays m c ∗ ∃ f, bufPts c f)
        ∗ owes (c : Thread nD τ) (owesAll c) W
        ∗ ((after m c ∗ ∃ W', owes (c : Thread nD τ) 0 W') -∗ Kt ⟨⟩))
      ⊢ wp frame (wpE (defs₀ (F := F)) 𝒱₀ c none) Set.univ
          (cc0_body xM (Memref.isWhole_whole _) oM (Memref.isWhole_whole _) bM (Memref.isWhole_whole _)
            cc0_scratch1 cc0_scratch2 cc0_scratch3 cc0_scratch4) Kt := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold ghost invs opened places paidDuties arrays
  iintro ⟨⟨⟨⟨#Iready, #Istage, #Ikeep, #Isent, #Irecv, #IreadyP, #IrecvP⟩, ⟨#RreadyP, #Rstage, #Rkeep, #Rsent, #RrecvP⟩,
      ⟨Aready, Astage, Akeep, Asent, Arecv⟩, ⟨TreadyP, Tstage, Tkeep, Tsent, TrecvP⟩⟩, Cready, Crecv, #Hlev, ⟨Hx, Hout⟩, ⟨%f0, Hbuf⟩⟩, HO, Hk⟩
  ihave Hx2 := (x_split m c).1 $$ Hx
  icases Hx2 with ⟨Haway, Hkeep⟩
  ihave Ho2 := (out_split c (m ((c : Thread nD τ).loc main_v1))).1 $$ Hout
  icases Ho2 with ⟨Hmine, Htheirs⟩
  -- the two local copies start
  iapply (copy_stage m c (K (c, 1)) f0) $$ [Haway Hbuf Tstage]
  · isplitr; · iexact Istage
    isplitl [Haway]; · iexact Haway
    isplitl [Hbuf]; · iexact Hbuf
    isplitl [Tstage]; · iexact Tstage
    iexact Rstage
  iintro Cstage
  iapply (copy_keep m c (K (c, 2)) (m ((c : Thread nD τ).loc main_v1))) $$ [Hkeep Hmine Tkeep]
  · isplitr; · iexact Ikeep
    isplitl [Hkeep]; · iexact Hkeep
    isplitl [Hmine]; · iexact Hmine
    isplitl [Tkeep]; · iexact Tkeep
    iexact Rkeep
  iintro Ckeep
  -- the signal hands the peer the rows it will write
  simp only [dev1_eq c]
  iapply (Rounds.wp_signal 𝒱₀ ER (plan m) (c : Thread nD τ) none (dst := (peer c : Thread nD τ)) (κ := K (peer c, 0))
      (mem_duties m (peer c) 0) ((amount_ready m (peer c) ()).trans (by decide)) () (owesCopy c) (owesAll_eq c)) $$ [HO TreadyP Htheirs]
  · isplitr; · iexact IreadyP
    isplitl [HO]; · iexact HO
    isplitl [TreadyP]; · iexact TreadyP
    isplitl [Htheirs]
    · rw [show (plan m).payload ((peer c : Thread nD τ), readySem) 0 () = readyPay (peer c) from handed_ready m (peer c)]
      unfold readyPay; rw [peer_peer]
      iexists _; iexact Htheirs
    · iexact RreadyP
  iintro HO
  -- the peer's signal brings the rows of the peer's result
  iapply (Rounds.wp_wait_rest_token 𝒱₀ ER (plan m) (c : Thread nD τ) none (κ := K (c, 0))
      (wpE_semWait_eq 𝒱₀ (c : Thread nD τ) none Set.univ) (Set.mem_univ _) () (O := owesCopy c) (W := W) (R := 0) (m := 0) (T := ∅)
      (by rw [Nat.zero_add]; exact ((expect_event m c 0).trans (amount_ready m c ())).symm)) $$ [Cready HO Aready]
  · isplitr; · iexact Iready
    isplitl [Cready]; · iexact Cready
    isplitl [HO]; · iexact HO
    isplitr; · iapply (mayWait_owing c readySem (by decide)); iexact Hlev
    iexact Aready
  iintro ⟨HO, Aready, -, Hpay⟩
  ihave Hp := (Entails.of_eq ((rest_event m c 0).trans (handed_ready m c))) $$ Hpay
  unfold readyPay
  icases Hp with ⟨%fn, Hpeer⟩
  -- the staged copy has arrived
  iapply (Rounds.wp_wait_rest_token 𝒱₀ ER (plan m) (c : Thread nD τ) none (κ := K (c, 1))
      (wpE_waitDma2_eq 𝒱₀ (c : Thread nD τ) none Set.univ) (Set.mem_univ _) () (O := owesCopy c) (R := 0) (m := 0) (T := ∅)
      (by rw [Nat.zero_add]; exact ((expect_event m c 1).trans (amount_dma m c _ ())).symm)) $$ [Cstage HO Astage]
  · isplitr; · iexact Istage
    isplitl [Cstage]; · iexact Cstage
    isplitl [HO]; · iexact HO
    isplitr; · iapply (mayWait_owing c stageSem (by decide)); iexact Hlev
    iexact Astage
  iintro ⟨HO, Astage, -, Hpay⟩
  ihave Hp := (Entails.of_eq ((rest_event m c 1).trans (handed_stage m c))) $$ Hpay
  unfold stagePay
  icases Hp with ⟨Hbuf, Haway⟩
  -- the remote copy starts
  iapply (copy_sent m c _ (dev2_eq c) (K (c, 3)) (K (peer c, 4)) fn) $$ [Hbuf Hpeer HO Tsent TrecvP]
  · isplitr; · iexact Isent
    isplitr; · iexact IrecvP
    isplitl [Hbuf]; · iexact Hbuf
    isplitl [Hpeer]; · iexact Hpeer
    isplitl [HO]; · iexact HO
    isplitl [Tsent]; · iexact Tsent
    isplitr; · iexact Rsent
    isplitl [TrecvP]; · iexact TrecvP
    iexact RrecvP
  iintro ⟨Csent, HO⟩
  -- the kept copy has arrived
  iapply (Rounds.wp_wait_rest_token 𝒱₀ ER (plan m) (c : Thread nD τ) none (κ := K (c, 2))
      (wpE_waitDma2_eq 𝒱₀ (c : Thread nD τ) none Set.univ) (Set.mem_univ _) () (O := 0) (R := 0) (m := 0) (T := ∅)
      (by rw [Nat.zero_add]; exact (credit_oRows c).trans ((expect_event m c 2).trans (amount_dma m c _ ())).symm)) $$ [Ckeep HO Akeep]
  · isplitr; · iexact Ikeep
    isplitl [Ckeep]; · iexact Ckeep
    isplitl [HO]; · iexact HO
    isplitr; · rw [MayWait_zero]; iempintro
    iexact Akeep
  iintro ⟨HO, Akeep, -, Hpay⟩
  ihave Hp := (Entails.of_eq ((rest_event m c 2).trans (handed_keep m c))) $$ Hpay
  unfold keepPay
  icases Hp with ⟨Hmine, Hkeep⟩
  -- the remote copy has left
  iapply (Rounds.wp_wait_rest_token 𝒱₀ ER (plan m) (c : Thread nD τ) none (κ := K (c, 3))
      (wpE_waitDma2_eq 𝒱₀ (c : Thread nD τ) none Set.univ) (Set.mem_univ _) () (O := 0) (R := 0) (m := 0) (T := ∅)
      (by rw [Nat.zero_add]; exact ((expect_event m c 3).trans (amount_dma m c _ ())).symm)) $$ [Csent HO Asent]
  · isplitr; · iexact Isent
    isplitl [Csent]; · iexact Csent
    isplitl [HO]; · iexact HO
    isplitr; · rw [MayWait_zero]; iempintro
    iexact Asent
  iintro ⟨HO, Asent, -, Hpay⟩
  ihave Hbuf := (Entails.of_eq ((rest_event m c 3).trans (handed_sent m c))) $$ Hpay
  unfold sentPay
  -- the peer's copy has arrived
  iapply (Rounds.wp_wait_rest_token 𝒱₀ ER (plan m) (c : Thread nD τ) none (κ := K (c, 4))
      (wpE_waitDma2_eq 𝒱₀ (c : Thread nD τ) none Set.univ) (Set.mem_univ _) () (O := 0) (R := 0) (m := 0) (T := ∅)
      (by rw [Nat.zero_add]; exact (credit_oRows c).trans ((expect_event m c 4).trans (amount_dma m c _ ())).symm)) $$ [Crecv HO Arecv]
  · isplitr; · iexact Irecv
    isplitl [Crecv]; · iexact Crecv
    isplitl [HO]; · iexact HO
    isplitr; · rw [MayWait_zero]; iempintro
    iexact Arecv
  iintro ⟨HO, Arecv, -, Hpay⟩
  ihave Htheirs := (Entails.of_eq ((rest_event m c 4).trans (handed_recv m c))) $$ Hpay
  unfold recvPay
  -- the five cells close at zero
  imod (Rounds.cell_close ER (plan m) (Set.mem_univ (K (c, 0))) (fun h => h) (R := 0 + 1) (duties_later m (readyCell c))) $$ [Aready] with Zready
  · isplitr; · iexact Iready
    iexact Aready
  imod (Rounds.cell_close ER (plan m) (Set.mem_univ (K (c, 1))) (fun h => h) (R := 0 + 1) (duties_later m (stageCell c))) $$ [Astage] with Zstage
  · isplitr; · iexact Istage
    iexact Astage
  imod (Rounds.cell_close ER (plan m) (Set.mem_univ (K (c, 2))) (fun h => h) (R := 0 + 1) (duties_later m (keepCell c))) $$ [Akeep] with Zkeep
  · isplitr; · iexact Ikeep
    iexact Akeep
  imod (Rounds.cell_close ER (plan m) (Set.mem_univ (K (c, 3))) (fun h => h) (R := 0 + 1) (duties_later m (sentCell c))) $$ [Asent] with Zsent
  · isplitr; · iexact Isent
    iexact Asent
  imod (Rounds.cell_close ER (plan m) (Set.mem_univ (K (c, 4))) (fun h => h) (R := 0 + 1) (duties_later m (recvCell c))) $$ [Arecv] with Zrecv
  · isplitr; · iexact Irecv
    iexact Arecv
  -- the halves join
  ihave Hx := (x_split m c).2 $$ [Haway Hkeep]
  · isplitl [Haway] <;> iassumption
  ihave Hout := (out_split c (final m c)).2 $$ [Hmine Htheirs]
  · isplitl [Hmine] <;> iassumption
  rw [wp_ret]; imodintro
  iapply Hk
  unfold after results
  isplitr [HO]
  · isplitl [Hx Hout]
    · isplitl [Hx] <;> iassumption
    isplitl [Hbuf]; · iexact Hbuf
    isplitl [Zready]; · iexact Zready
    isplitl [Zstage]; · iexact Zstage
    isplitl [Zkeep]; · iexact Zkeep
    isplitl [Zsent] <;> iassumption
  · iexists _; iexact HO

/-! ## The launch's view of the body -/

/-- What a device holds before and after the body, and what it owes there; the kernel has no windows. -/
def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => before m c
    | ⟨_ + 1, _⟩ => after m c
  q _ := fullShare
  owed t := match t with
    | ⟨0, _⟩ => owesAll c
    | ⟨_ + 1, _⟩ => 0

/-- The body meets its obligation at the kernel's one point. -/
theorem body_obligation (c : Dev nD) : BodyObligation (dats (F := F) m 0 c) (defs₀ (F := F)) 𝒱₀ () Set.univ := fun t => by
  rw [fin_N0 t, show (Finset.univ : Finset (Fin cfg0.W)) = ∅ from rfl, bigSep_empty, bigSep_empty]
  show iprop(before m c ∗ (dats m 0 c).owesAt () t0_0.castSucc ∗ emp) ⊢ wp frame (wpE (defs₀ (F := F)) 𝒱₀ c none) Set.univ
    (cc0_body xM (Memref.isWhole_whole _) oM (Memref.isWhole_whole _) bM (Memref.isWhole_whole _)
      cc0_scratch1 cc0_scratch2 cc0_scratch3 cc0_scratch4)
    (fun _ => iprop(after m c ∗ (dats m 0 c).owesAt () t0_0.succ ∗ emp))
  unfold before start Dat.owesAt Pipeline.owesWithin
  rw [show (dats m 0 c).owed t0_0.castSucc = owesAll c from rfl, show (dats m 0 c).owed t0_0.succ = 0 from rfl]
  iintro ⟨⟨⟨⟨%K, Hg⟩, Hrest⟩, Hbuf⟩, ⟨%W, -, HO⟩, -⟩
  iapply (sound_body m K c W)
  isplitl [Hg Hrest Hbuf]
  · isplitl [Hg]; · iexact Hg
    icases Hrest with ⟨H1, H2, H3, H4⟩
    isplitl [H1]; · iexact H1
    isplitl [H2]; · iexact H2
    isplitl [H3]; · iexact H3
    isplitl [H4] <;> iassumption
  isplitl [HO]; · iexact HO
  iintro ⟨Ha, ⟨%W', HO⟩⟩
  isplitl [Ha]; · iexact Ha
  isplitl [HO]
  · iexists W'
    isplitr; · ipureintro; exact fun _ _ => Or.inl trivial
    iexact HO
  iempintro

end Cert.AllToAll

end
-- ==== Proof.Launch.lean ====
/-
The launch.

Every device's five semaphores become cells of the protocol, the duties are dealt to the devices that pay them, and
the credits that the devices owe each other meet. `run_main` is the run: from any memory with the semaphores at zero,
the program ends, and every device then holds its input rows as launched, its result at the final contents, and every
semaphore at zero. It holds for any interpretation of the floats.
-/
module

public import proofs.«01_k».proof.Proof.Body
public import Idealize.ShloMosaic.Lib.Pipeline.CollectiveSegs

@[expose] public section

noncomputable section

namespace Cert.AllToAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and duties -/

/-- The semaphores the kernel allocates for itself: all but the barrier's. -/
abbrev ownSem : Fin 4 → SemLoc sig := fun | 0 => stageSem | 1 => keepSem | 2 => sentSem | 3 => recvSem

/-- They are distinct and belong to the kernel alone. -/
theorem ownSemFacts : Pipeline.OwnSemFacts cfg0.spec ownSem := by decide

/-- The cell of event `p.2` on device `p.1`. -/
abbrev cell (p : Dev nD × Fin 5) : GSem nD τ sig := ((p.1 : Thread nD τ), event p.2)

/-- No two events share a cell. -/
theorem cell_injective : Function.Injective cell := by
  rintro ⟨c, k⟩ ⟨c', k'⟩ h
  obtain rfl : c = c' := congrArg (fun g : GSem nD τ sig => g.1.1) h
  obtain rfl : k = k' := event_injective (congrArg Prod.snd h)
  rfl

/-- All cells of the protocol. -/
def allCells : Finset (GSem nD τ sig) := Finset.univ.map ⟨cell, cell_injective⟩
/-- All duties: one of each cell. -/
def allDuties : Finset (GSem nD τ sig × ℕ × Unit) :=
  Finset.univ.map ⟨fun p => (cell p, 0, ()), fun _ _ h => cell_injective (congrArg Prod.fst h)⟩

/-- The bookkeeping the launch starts from. -/
def u₀ : UU := (initOf (Pipeline.cells cfgs cellOf_inj) (Pipeline.launchToks cfgs cellOf_inj), initOf allCells allDuties)

/-- A family over the five events, written out. -/
theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What is dealt to device `c` at first: the state of its cells, its places there, and the duties of its cells. -/
def dealt (c : Dev nD) : sProp 𝕄 :=
  iprop((bigSep Finset.univ fun k : Fin 5 => roundState ER (plan m) (cell (c, k)) 0)
    ∗ (bigSep Finset.univ fun k : Fin 5 => atPos ER (cell (c, k)) 0 ∅ 0)
    ∗ (bigSep Finset.univ fun k : Fin 5 => reached ER (cell (c, k)) 0)
    ∗ (bigSep Finset.univ fun k : Fin 5 => dutyTok ER (cell (c, k)) 0 ()))

/-- A family over all cells is a family over the devices of families over the events. -/
theorem over_cells (Φ : GSem nD τ sig → sProp 𝕄) :
    bigSep allCells Φ = bigSep Finset.univ fun c : Dev nD => bigSep Finset.univ fun k : Fin 5 => Φ (cell (c, k)) := by
  unfold allCells; rw [bigSep_map, bigSep_univ_prod]; rfl

/-- The same for the duties. -/
theorem over_duties (Φ : GSem nD τ sig × ℕ × Unit → sProp 𝕄) :
    bigSep allDuties Φ = bigSep Finset.univ fun c : Dev nD => bigSep Finset.univ fun k : Fin 5 => Φ (cell (c, k), 0, ()) := by
  unfold allDuties; rw [bigSep_map, bigSep_univ_prod]; rfl

/-- The protocol's bookkeeping funds every device's share. -/
theorem fund_all : BI.own (ER (initOf allCells allDuties)) ⊢ (|==> bigSep Finset.univ (dealt m) : sProp 𝕄) := by
  iintro Hu
  imod (Rounds.fund ER (plan m) allCells allDuties) $$ Hu with ⟨Hstate, Hreached, Hat, Htok⟩
  imodintro
  ihave H1 := (Entails.of_eq (over_cells fun g => roundState ER (plan m) g 0)) $$ Hstate
  ihave H2 := (Entails.of_eq (over_cells fun g => atPos ER g 0 ∅ 0)) $$ Hat
  ihave H3 := (Entails.of_eq (over_cells fun g => reached ER g 0)) $$ Hreached
  ihave H4 := (Entails.of_eq (over_duties fun x => dutyTok ER x.1 x.2.1 x.2.2)) $$ Htok
  unfold dealt; simp only [bigSep_sep']
  isplitl [H1]; · iexact H1
  isplitl [H2]; · iexact H2
  isplitl [H3] <;> iassumption

/-! ## The semaphores -/

/-- The kernel's own semaphores are those of the four copies' events. -/
theorem ownSems0_eq (c : Dev nD) : (Pipeline.ownSems0 (Ix := Unit) (Name := ℕ) (U := UU) (Lvl := ℕ) (Val := Elt F) (τ := τ) ownSem c : sProp 𝕄)
    = iprop(semVal (stageCell c) 0 ∗ semVal (keepCell c) 0 ∗ semVal (sentCell c) 0 ∗ semVal (recvCell c) 0) := by
  rw [Pipeline.ownSems0_eq_of_list c ownSem [0, 1, 2, 3] (by decide) (by decide)]; rfl

/-- The barrier semaphore is the one the kernel does not allocate. -/
theorem unscopedSems0_eq (c : Dev nD) : (unscopedSems0 c : sProp 𝕄) = semVal (readyCell c) 0 := by
  unfold unscopedSems0; rw [bigSep_eq_bigSepL_of_eq [readySem] (by decide) (by decide)]; rfl

/-- A device's semaphores at zero and the state of its cells make the records of its cells. -/
theorem records_of_device (c : Dev nD) :
    iprop(Pipeline.ownSems0 (Ix := Unit) (Name := ℕ) (U := UU) (Lvl := ℕ) (Val := Elt F) (τ := τ) ownSem c ∗ unscopedSems0 c
        ∗ bigSep Finset.univ fun k : Fin 5 => roundState ER (plan m) (cell (c, k)) 0)
      ⊢ (|={Set.univ}=> bigSep Finset.univ fun k : Fin 5 => iprop(∃ κ : ℕ, cellInv ER (plan m) κ (cell (c, k))) : sProp 𝕄) := by
  have hv : iprop(Pipeline.ownSems0 (Ix := Unit) (Name := ℕ) (U := UU) (Lvl := ℕ) (Val := Elt F) (τ := τ) ownSem c ∗ unscopedSems0 c)
      ⊢ (bigSep Finset.univ fun k : Fin 5 => semVal (cell (c, k)) 0 : sProp 𝕄) := by
    rw [ownSems0_eq, unscopedSems0_eq, bigSep_five]
    iintro ⟨Hown, Hready⟩
    isplitl [Hready] <;> iassumption
  have hi : iprop((bigSep Finset.univ fun k : Fin 5 => semVal (cell (c, k)) 0) ∗ bigSep Finset.univ fun k : Fin 5 => roundState ER (plan m) (cell (c, k)) 0)
      ⊢ (|={Set.univ}=> bigSep Finset.univ fun k : Fin 5 => iprop(∃ κ : ℕ, cellInv ER (plan m) κ (cell (c, k))) : sProp 𝕄) := by
    rw [← bigSep_sep']
    exact (bigSep_mono fun k _ => (Rounds.body_intro ER (plan m) (cell (c, k))).trans inv_alloc).trans (bigSep_fupd _ _)
  iintro ⟨Hown, Hready, Hst⟩
  iapply hi
  isplitl [Hown Hready]
  · iapply hv; isplitl [Hown] <;> iassumption
  · iexact Hst

/-- The records of all cells, named by `K`, and that every first round is open. -/
def records (K : Dev nD × Fin 5 → ℕ) : sProp 𝕄 :=
  iprop((bigSep Finset.univ fun p : Dev nD × Fin 5 => cellInv ER (plan m) (K p) (cell p))
    ∗ bigSep Finset.univ fun p : Dev nD × Fin 5 => reached ER (cell p) 0)

instance records_persistent (K : Dev nD × Fin 5 → ℕ) : BI.Persistent (records m K) := by unfold records; infer_instance

/-- One record out of all. -/
theorem record_at (K : Dev nD × Fin 5 → ℕ) (p : Dev nD × Fin 5) : records m K ⊢ cellInv ER (plan m) (K p) (cell p) := by
  refine (show records m K ⊢ bigSep Finset.univ fun p : Dev nD × Fin 5 => cellInv ER (plan m) (K p) (cell p) from ?_).trans
    (bigSep_elim (Finset.mem_univ p))
  unfold records
  iintro ⟨H, -⟩
  iexact H

/-- One open round out of all. -/
theorem open_at (K : Dev nD × Fin 5 → ℕ) (p : Dev nD × Fin 5) : records m K ⊢ reached ER (cell p) 0 := by
  refine (show records m K ⊢ bigSep Finset.univ fun p : Dev nD × Fin 5 => reached ER (cell p) 0 from ?_).trans
    (bigSep_elim (Finset.mem_univ p))
  unfold records
  iintro ⟨-, H⟩
  iexact H

/-- The records, a device's places and the duties it pays are its share of the protocol. -/
theorem ghost_of_records (K : Dev nD × Fin 5 → ℕ) (c : Dev nD) :
    iprop(records m K ∗ places c ∗ paidDuties c) ⊢ (∃ K, ghost m K c : sProp 𝕄) := by
  iintro ⟨#H, Hat, Htok⟩
  iexists K
  unfold ghost invs opened
  isplitr
  · isplitr; · iapply (record_at m K (c, 0)); iexact H
    isplitr; · iapply (record_at m K (c, 1)); iexact H
    isplitr; · iapply (record_at m K (c, 2)); iexact H
    isplitr; · iapply (record_at m K (c, 3)); iexact H
    isplitr; · iapply (record_at m K (c, 4)); iexact H
    isplitr; · iapply (record_at m K (peer c, 0)); iexact H
    iapply (record_at m K (peer c, 4)); iexact H
  isplitr
  · isplitr; · iapply (open_at m K (peer c, 0)); iexact H
    isplitr; · iapply (open_at m K (c, 1)); iexact H
    isplitr; · iapply (open_at m K (c, 2)); iexact H
    isplitr; · iapply (open_at m K (c, 3)); iexact H
    iapply (open_at m K (peer c, 4)); iexact H
  isplitl [Hat] <;> iassumption

/-- The duties of the signal and of the arrival change hands within each pair. -/
theorem deal_duties : (bigSep Finset.univ fun c : Dev nD => (ownDuties c : sProp 𝕄)) ⊢ bigSep Finset.univ fun c : Dev nD => paidDuties c := by
  unfold ownDuties paidDuties
  simp only [bigSep_sep']
  rw [bigSep_univ_equiv pairing (fun c : Dev nD => (dutyTok ER (readyCell c) 0 () : sProp 𝕄)),
    bigSep_univ_equiv pairing (fun c : Dev nD => (dutyTok ER (recvCell c) 0 () : sProp 𝕄))]
  exact BI.Entails.refl _

/-- One device's records, open rounds, places and duties. -/
def settled (c : Dev nD) : sProp 𝕄 :=
  iprop((bigSep Finset.univ fun k : Fin 5 => iprop(∃ κ : ℕ, cellInv ER (plan m) κ (cell (c, k))))
    ∗ (bigSep Finset.univ fun k : Fin 5 => reached ER (cell (c, k)) 0) ∗ places c ∗ ownDuties c)

/-- What is dealt to a device, with its semaphores at zero, settles its cells. -/
theorem settle (c : Dev nD) :
    iprop(Pipeline.ownSems0 (Ix := Unit) (Name := ℕ) (U := UU) (Lvl := ℕ) (Val := Elt F) (τ := τ) ownSem c ∗ unscopedSems0 c ∗ dealt m c)
      ⊢ (|={Set.univ}=> settled m c : sProp 𝕄) := by
  unfold dealt settled places ownDuties
  rw [bigSep_five (fun k => atPos ER (cell (c, k)) 0 ∅ 0), bigSep_five (fun k => dutyTok ER (cell (c, k)) 0 ())]
  iintro ⟨Hown, Hready, Hst, Hat, Hre, Htok⟩
  imod (records_of_device m c) $$ [Hown Hready Hst] with Hinv
  · isplitl [Hown]; · iexact Hown
    isplitl [Hready] <;> iassumption
  imodintro
  isplitl [Hinv]; · iexact Hinv
  isplitl [Hre]; · iexact Hre
  isplitl [Hat] <;> iassumption

/-- The settled devices together make every device's share of the protocol. -/
theorem share_of_settled : (bigSep Finset.univ fun c : Dev nD => settled m c) ⊢ bigSep Finset.univ fun c : Dev nD => (iprop(∃ K, ghost m K c) : sProp 𝕄) := by
  unfold settled
  simp only [bigSep_sep']
  rw [← bigSep_univ_prod (fun p : Dev nD × Fin 5 => iprop(∃ κ : ℕ, cellInv ER (plan m) κ (cell p))),
    ← bigSep_univ_prod (fun p : Dev nD × Fin 5 => (reached ER (cell p) 0 : sProp 𝕄))]
  iintro ⟨Hinv, Hre, Hat, Htok⟩
  ihave HK := (BI.bigSep_exists_pi Finset.univ (fun (p : Dev nD × Fin 5) (κ : ℕ) => (cellInv ER (plan m) κ (cell p) : sProp 𝕄))) $$ Hinv
  icases HK with ⟨%K, HK⟩
  ihave Htok := (deal_duties (F := F)) $$ Htok
  iapply (show iprop(records m K ∗ bigSep Finset.univ fun c : Dev nD => iprop(places c ∗ paidDuties c))
      ⊢ bigSep Finset.univ fun c : Dev nD => (iprop(∃ K, ghost m K c) : sProp 𝕄) from
    (sep_mono_left (BI.bigSep_of_persistent Finset.univ (records m K))).trans
      (by rw [← bigSep_sep']; exact bigSep_mono fun c _ => ghost_of_records m K c))
  isplitl [HK Hre]
  · unfold records; isplitl [HK] <;> iassumption
  · rw [bigSep_sep']
    isplitl [Hat] <;> iassumption

/-- What is dealt to all devices, with all semaphores at zero, makes every device's share of the protocol. -/
theorem share_all :
    (bigSep Finset.univ fun c => iprop(Pipeline.ownSems0 (Ix := Unit) (Name := ℕ) (U := UU) (Lvl := ℕ) (Val := Elt F) (τ := τ) ownSem c
        ∗ unscopedSems0 c ∗ dealt m c) : sProp 𝕄)
      ⊢ |={Set.univ}=> bigSep Finset.univ fun c : Dev nD => iprop(∃ K, ghost m K c) :=
  ((bigSep_mono fun c _ => settle m c).trans (bigSep_fupd _ _)).trans (BI.fupd_mono (share_of_settled m))

/-! ## The credits -/

/-- Cells of one semaphore are equal when their devices are. -/
theorem cell_eq_iff (sm : SemLoc sig) {a b : Dev nD} : ((a : Thread nD τ), sm) = ((b : Thread nD τ), sm) ↔ a = b :=
  ⟨fun h => congrArg (fun g : GSem nD τ sig => g.1.1) h, fun h => h ▸ rfl⟩

/-- A tally at the peer of `d`, read at device `c`. -/
theorem tally_peer (sm : SemLoc sig) (n : ℕ) (d c : Dev nD) :
    (tallyAt ((peer d : Thread nD τ), sm) () n : CellTallies nD τ sig Unit) ((c : Thread nD τ), sm) () = if d = peer c then n else 0 := by
  rw [tallyAt_apply]
  refine if_congr ⟨fun h => ?_, fun h => ⟨?_, rfl⟩⟩ rfl rfl
  · exact peer_eq_iff.mp ((cell_eq_iff sm).mp h.1).symm
  · rw [h, peer_peer]

/-- The barrier semaphore is not the arrival semaphore. -/
theorem ready_ne_recv : readySem ≠ recvSem := fun h => by cases h

/-- Only the peer owes a device a signal. -/
theorem owed_ready (d c : Dev nD) : owesAll d (readyCell c) () = if d = peer c then 1 else 0 := by
  unfold owesAll owesCopy
  rw [Pi.add_apply, Finsupp.add_apply, tallyAt_ne_cell (fun h => ready_ne_recv (congrArg Prod.snd h)), Finsupp.zero_apply, Nat.zero_add, tally_peer]

/-- Only the peer owes a device an arrival. -/
theorem owed_recv (d c : Dev nD) : owesAll d (recvCell c) () = if d = peer c then credit else 0 := by
  unfold owesAll owesCopy
  rw [Pi.add_apply, Finsupp.add_apply, tally_peer, tallyAt_ne_cell (fun h => ready_ne_recv (congrArg Prod.snd h).symm), Finsupp.zero_apply, Nat.add_zero]

/-- If only the peer owes a device on one semaphore, the device holds the credit of what the peer owes. -/
theorem launch_credit (sm : SemLoc sig) (n : ℕ) (c : Dev nD) (h : ∀ d : Dev nD, owesAll d ((c : Thread nD τ), sm) () = if d = peer c then n else 0) :
    tallyOn ((c : Thread nD τ), sm) (launchCredit (Pipeline.owing owesAll) 0 ((c : Thread nD τ), sm))
      = (tallyAt ((c : Thread nD τ), sm) () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (peer c) fun _ => n,
    if_pos (Finset.mem_univ _)]

/-- A device holds the credit of the one signal and of the one arrival it waits for. -/
theorem credits (c : Dev nD) :
    (Pipeline.launchCred owesAll c : sProp 𝕄) ⊢ iprop(cred (tallyAt (readyCell c) () 1) ∗ cred (tallyAt (recvCell c) () credit)) := by
  unfold Pipeline.launchCred
  rw [bigSep_univ_at _ readySem, launch_credit readySem 1 c fun d => owed_ready d c]
  refine sep_mono_right ?_
  rw [← launch_credit recvSem credit c fun d => owed_recv d c]
  exact bigSep_elim (Finset.mem_erase.mpr ⟨by decide, Finset.mem_univ _⟩)

/-! ## The start and the end -/

/-- The launch gives a device what it starts from. -/
theorem start_intro (c : Dev nD) :
    iprop(Pipeline.unscopedRestP Pipeline.Prefetch.none cfg0.spec c (fun b => m ((c : Thread nD τ).loc b)) ∗ levAts L lv
        ∗ Pipeline.launchCred owesAll c ∗ prngReg c (ρ c) ∗ (∃ K, ghost m K c))
      ⊢ |={Set.univ}=> iprop(start m c ∗ emp) := by
  rw [Pipeline.unscopedRestP_none, unscopedRest0_eq]
  iintro ⟨Harr, Hlev, Hcr, -, HG⟩
  ihave Hc := (credits (F := F) c) $$ Hcr
  icases Hc with ⟨H1, HN⟩
  imodintro
  unfold start arrays
  isplitl
  · isplitl [HG]; · iexact HG
    isplitl [H1]; · iexact H1
    isplitl [HN]; · iexact HN
    isplitl [Hlev] <;> iassumption
  · iempintro

/-- With the staging buffer, that is what the body starts from. -/
theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, ⟨%f, Hb⟩⟩
  isplitl [Hs]; · iexact Hs
  iexists f; rw [bufPts_eq]; iexact Hb

/-- What the body ends with gives the semaphores at zero, the results and the staging buffer back. -/
theorem after_elim (c : Dev nD) :
    (dats m 0 c).Φ (Fin.last cfg0.N) ⊢ iprop((unscopedSems0 c ∗ results m c) ∗ Pipeline.ownSems0 ownSem c ∗ Pipeline.scopedRest cfg0.spec c) := by
  rw [show (dats m 0 c).Φ (Fin.last cfg0.N) = after m c from rfl, scopedRest0_eq, ownSems0_eq, unscopedSems0_eq]
  unfold after
  iintro ⟨Hres, Hbuf, Hready, Hown⟩
  isplitl [Hready Hres]
  · isplitl [Hready] <;> iassumption
  isplitl [Hown]; · iexact Hown
  iexists (staged m c); rw [← bufPts_eq]; iexact Hbuf

/-- The two arrays a device ends with are what its memory holds. -/
theorem results_read (c : Dev nD) (s : Phys nD τ sig (Elt F)) :
    iprop(results m c ∗ SI s) ⊢ (iprop(⌜s.mem.mem ((c : Thread nD τ).loc main_arg0) = m ((c : Thread nD τ).loc main_arg0)
      ∧ s.mem.mem ((c : Thread nD τ).loc main_v1) = final m c⌝ ∗ SI s) : sProp 𝕄) := by
  unfold results
  iintro ⟨⟨Hx, Hout⟩, HSI⟩
  icombine HSI Hx gives %hx
  icombine HSI Hout gives %ho
  isplitr
  · ipureintro; exact ⟨Buf.eq_of_forall_mem_univ hx, Buf.eq_of_forall_mem_univ ho⟩
  iexact HSI

/-! ## The run -/

set_option maxRecDepth 8000 in
/-- From any memory with every semaphore at zero, the program ends; every device then holds its input rows as launched
    and its result at the final contents, and every semaphore is at zero. -/
theorem run_main : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_v1) = final m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := owesAll) (howed₀ := fun _ => rfl) (howedN := fun _ => rfl)
    (L := L) (lv := lv) (hL := L_of_ne) (hwaits := fun c => Pipeline.cellsWaits_intro cfgs (dats m) () 0 c fun w _ _ => w.elim0)
    (G := dealt m) (G' := fun c => iprop(∃ K, ghost m K c)) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := share_all m)
    (hA := fun _ _ => rfl) (hpf := fun _ k => k.elim0)
    (X := start m) (Y := fun c => iprop(unscopedSems0 c ∗ results m c)) (Z := fun _ => iprop(emp))
    (hX := start_intro m ρ) (hin := before_intro m) (hout := after_elim m)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_v1) = final m c)
    (hY := fun c s => by
      iintro ⟨⟨Hsem, Hres⟩, -, HSI⟩
      ihave H := (results_read m c s) $$ [Hres HSI]
      · isplitl [Hres] <;> iassumption
      icases H with ⟨%hres, HSI⟩
      imod (Pipeline.unscopedSems0_read (X := unscopedSems0 c) (c := c) fupd_intro s) $$ [Hsem HSI] with ⟨%hsem, HSI⟩
      · isplitl [Hsem] <;> iassumption
      imodintro
      isplitr; · ipureintro; exact ⟨hsem, hres⟩
      iexact HSI)
    (hQ := fun _ h hs => ⟨fun c => (h c).2.2.2, sem_eq_zero hs fun c => (h c).2.2.1⟩)

end Cert.AllToAll

end
-- ==== Proof.Value.lean ====
/-
The exchange computes the whole array's column blocks.

When the devices hold the row blocks of one 512 × 512 array, cut in two along the mesh axis y, the final contents of
every device are a column block of the same array, cut in two along y: row `r` of device `c`'s result is row `r` of the
array, and its columns are those that `c`'s y coordinate names.
-/
module

public import proofs.«01_k».proof.Proof.Halves
public import Idealize.ShloMosaic.Lib.Layout

@[expose] public section

noncomputable section

namespace Cert.AllToAll

open Idealize.ShloMosaic Idealize.ShloMosaic.TcCoe Idealize.ShloMosaic.ValueIdx Cert.KernelIdeal Cert.KernelIdeal.Gen

variable {F : FTy → Type} (m : (ℓ : Loc nD τ sig) → Buf (Elt F) ℓ)

/-- The whole array: 512 × 512. -/
abbrev Whole : Shape := ⟨2, ![512, 512]⟩

/-- The device of a pair at y coordinate `k` has that coordinate. -/
theorem half_owner (c : Dev nD) (k : ℕ) (hk : k < 2) : half (owner c k) = k := by
  have := half_lt c
  unfold owner
  split
  · omega
  · rw [half_peer]; omega

/-- The block a device holds along the mesh axis y is its y coordinate. -/
theorem meshLin_half (c : Dev nD) : Layout.meshLin [2, 2, 4] c.val [1] = half c := by revert c; decide

/-- The block of rows of device `d` starts at row `256 * half d`. -/
theorem rowBlock_apply (d : Dev nD) (X : Whole.Idx → Elt F .f32) (i : S256x512.Idx) (j : Whole.Idx)
    (h0 : (j 0).val = 256 * half d + (i 0).val) (h1 : (j 1).val = (i 1).val) :
    Layout.blockN ⟨2, ![256, 512]⟩ Whole (Layout.meshBlock [2, 2, 4] ![[1], []] d) X (by decide) i = X j := by
  rw [Layout.blockN_apply]
  refine congrArg X (funext fun a => Fin.ext ?_)
  match a with
  | ⟨0, _⟩ =>
    refine Eq.trans ?_ h0.symm
    show Layout.meshLin [2, 2, 4] d.val [1] * 256 + (i 0).val = _
    rw [meshLin_half, Nat.mul_comm]
  | ⟨1, _⟩ =>
    refine Eq.trans ?_ h1.symm
    show 0 * 512 + (i 1).val = _
    omega

/-- The block of columns of device `c` starts at column `256 * half c`. -/
theorem columnBlock_apply (c : Dev nD) (X : Whole.Idx → Elt F .f32) (i : S512x256.Idx) (j : Whole.Idx)
    (h0 : (j 0).val = (i 0).val) (h1 : (j 1).val = 256 * half c + (i 1).val) :
    Layout.blockN ⟨2, ![512, 256]⟩ Whole (Layout.meshBlock [2, 2, 4] ![[], [1]] c) X (by decide) i = X j := by
  rw [Layout.blockN_apply]
  refine congrArg X (funext fun a => Fin.ext ?_)
  match a with
  | ⟨0, _⟩ =>
    refine Eq.trans ?_ h0.symm
    show 0 * 512 + (i 0).val = _
    omega
  | ⟨1, _⟩ =>
    refine Eq.trans ?_ h1.symm
    show Layout.meshLin [2, 2, 4] c.val [1] * 256 + (i 1).val = _
    rw [meshLin_half, Nat.mul_comm]

/-- If the devices hold the row blocks of `X`, the final contents are the column blocks of `X`. -/
theorem final_eq_columnBlock (X : Whole.Idx → Elt F .f32)
    (hx : ∀ d : Dev nD, xOf m d = Layout.blockN ⟨2, ![256, 512]⟩ Whole (Layout.meshBlock [2, 2, 4] ![[1], []] d) X (by decide)) (c : Dev nD) :
    final m c = Layout.blockN ⟨2, ![512, 256]⟩ Whole (Layout.meshBlock [2, 2, 4] ![[], [1]] c) X (by decide) := by
  funext i
  have hi0 : (i 0).val < 512 := (i 0).isLt
  have hi1 : (i 1).val < 256 := (i 1).isLt
  have hc := half_lt c
  let j : Whole.Idx := ix2 (i 0) ⟨256 * half c + (i 1).val, by omega⟩
  rw [columnBlock_apply c X i j rfl rfl]
  unfold final
  rw [hx]
  refine rowBlock_apply _ X _ j ?_ rfl
  rw [half_owner c _ (by omega)]
  show (i 0).val = 256 * ((i 0).val / 256) + (i 0).val % 256
  omega

end Cert.AllToAll

end
-- ==== Proof.Reference.lean ====
/-
The reference.

The reference returns its argument: its program has no operation. It ends at once, its array is as launched, and it has
no semaphore.
-/
module

public import proofs.«01_k».proof.Proof.Gen.ReferenceIdeal
public import Idealize.ShloMosaic.Lib.StableHlo.RunHlo

@[expose] public section

noncomputable section

namespace Cert.AllToAll.Reference

open Idealize.ShloMosaic Idealize.ShloMosaic.TcCoe Cert.ReferenceIdeal

variable {F : FTy → Type} [FloatOps F] [∀ e, Nonempty (Elt F e)]

/-- The reference declares no semaphore. -/
theorem no_semaphore (sm : SemLoc sig) : False := by
  rcases sm with ⟨s⟩ | ⟨s⟩ <;> exact s.elim0

/-- The reference ends with its array as launched and every semaphore at zero. -/
theorem run (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_arg0) = m ((c.tc : Thread nD τ).loc main_arg0)) ∧ r.2.sem = fun _ => 0) :=
  θ_run_mono (StableHlo.run_hlo defs main (ops := []) (fun _ => StableHlo.IsSeq.nil) (by decide) (by decide) trivial (fun _ h => nomatch h) m ρ)
    fun _ h => ⟨fun c => h c main_arg0, funext fun g => (no_semaphore g.2).elim⟩

end Cert.AllToAll.Reference

end
-- ==== Proof.lean ====
/-
The proof of the five claims.

The kernel and its idealization have the same text, so one run, `run_main`, over any interpretation of the floats gives
the frames of both. The reference's run gives its frame. The value claim joins `run_main` with the equation of Value.lean:
the contents every device ends with are the column blocks of the array whose row blocks the devices start with, and the
reference returns that array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel ends with its input rows unchanged and every semaphore at zero. -/
theorem frame_kernel : Cert.quiescent_Kernel := fun m ρ _ =>
  (θ_run Cert.KernelIdeal.defs _ _).mono (fun _ h => ⟨fun c => (h.1 c).1, h.2⟩) (Cert.AllToAll.run_main (F := Bits) m ρ)

/-- The idealized kernel ends with its input rows unchanged and every semaphore at zero. -/
theorem frame_ideal : Cert.quiescent_KernelIdeal := fun m ρ _ =>
  (θ_run Cert.KernelIdeal.defs _ _).mono (fun _ h => ⟨fun c => (h.1 c).1, h.2⟩) (Cert.AllToAll.run_main (F := Ideal) m ρ)

/-- The reference ends with its array unchanged and every semaphore at zero. -/
theorem frame_reference : Cert.quiescent_ReferenceIdeal := fun m ρ _ => Cert.AllToAll.Reference.run m ρ

/-- The devices end with the column blocks of the array that the reference returns. -/
theorem value : Cert.algebraic_KernelIdeal_ReferenceIdeal := fun m ρ m' ρ' _ hx =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).2.trans (Cert.AllToAll.final_eq_columnBlock m _ hx c), (h.1 c).1⟩) (Cert.AllToAll.run_main (F := Ideal) m ρ),
    (θ_run Cert.ReferenceIdeal.defs _ _).mono (fun _ h => ⟨h.1 0, h.1 0⟩) (Cert.AllToAll.Reference.run m' ρ')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
